-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S16x2048x2048 : Shape := ⟨3, ![16, 2048, 2048]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x2048x2048 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 2048#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x2048x2048 : Shape := ⟨3, ![16, 2048, 2048]⟩
abbrev S16 : Shape := ⟨1, ![16]⟩
abbrev S32768x2048 : Shape := ⟨2, ![32768, 2048]⟩
abbrev S16x2048 : Shape := ⟨2, ![16, 2048]⟩
abbrev S_ : Shape := ⟨0, ![]⟩
abbrev S1 : Shape := ⟨1, ![1]⟩
abbrev S1x1024 : Shape := ⟨2, ![1, 1024]⟩

abbrev nBuf : Table → Nat
  | .hbm => 4
  | .local .scScalar .smem => 1
  | _ => 0

abbrev bufTy : (tb : Table) → Fin (nBuf tb) → BufTy
  | .hbm, ⟨0, _⟩ => ⟨S16x2048x2048, .f32⟩
  | .hbm, ⟨1, _⟩ => ⟨S16, .i32⟩
  | .hbm, ⟨2, _⟩ => ⟨S32768x2048, .f32⟩
  | .hbm, ⟨3, _⟩ => ⟨S16x2048, .f32⟩
  | .local .scScalar .smem, ⟨0, _⟩ => ⟨S16, .i32⟩
  | _, _ => ⟨S16x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c16_i32 : BitVec 32 := 16#32
  let v0 : BitVec 32 := Scalar.addi c0_i32_0 c16_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let v3 : Index := Scalar.indexCast arg6
  ![v3.toNat]
def k0_off2 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c0_i32_7 : BitVec 32 := 0#32
  ![arg6.toNat, 0]
def k0_off3 (k0_t1 : Fin k0_t1_loop.trips) (v4 : BitVec 32) : Fin 2 → Nat :=
  let c0_i32_0 : BitVec 32 := 0#32
  let c1_i32 : BitVec 32 := 1#32
  let arg6 : BitVec 32 := Scf.iv c0_i32_0 c1_i32 k0_t1
  let c2048_i32 : BitVec 32 := 2048#32
  let v2 : BitVec 32 := Scalar.muli arg6 c2048_i32
  let v5 : BitVec 32 := Scalar.addi v2 v4
  let c1_i32_6 : BitVec 32 := 1#32
  let v6 : BitVec 32 := Scalar.subi v5 c1_i32_6
  let c0_i32_8 : BitVec 32 := 0#32
  ![v6.toNat, 0]

def k0_chk1 (k0_t1 : Fin k0_t1_loop.trips) (v4 : BitVec 32) : Prop :=
  (∀ a, (k0_off3 k0_t1 v4) a + S1x1024.size a ≤ S32768x2048.size a)
theorem k0_off3_inb : ∀ (k0_t1 : Fin k0_t1_loop.trips) (v4 : BitVec 32) (k0_hw1 : k0_chk1 k0_t1 v4), ∀ a, (k0_off3 k0_t1 v4) a + S1x1024.size a ≤ S32768x2048.size a := fun k0_t1 v4 k0_hw1 => k0_hw1

def k0_off4 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c1024_i32 : BitVec 32 := 1024#32
  ![arg6.toNat, 1024]
def k0_off5 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let c2048_i32_9 : BitVec 32 := 2048#32
  let v9 : BitVec 32 := Scalar.muli arg6 c2048_i32_9
  let c1024_i32_10 : BitVec 32 := 1024#32
  ![v9.toNat, 1024]
@[reducible] def k0_t2_loop : Scf.Loop 32 :=
  let c0_i32_3 : BitVec 32 := 0#32
  let c32_i32 : BitVec 32 := 32#32
  let v1 : BitVec 32 := Scalar.addi c0_i32_3 c32_i32
  let c1_i32_4 : BitVec 32 := 1#32
  ⟨c0_i32_3, v1, c1_i32_4⟩
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16x2048x2048 : Shape := ⟨3, ![16, 2048, 2048]⟩
abbrev S16 : Shape := ⟨1, ![16]⟩
abbrev S_ : Shape := ⟨0, ![]⟩
abbrev S16x1x1 : Shape := ⟨3, ![16, 1, 1]⟩
abbrev S16x1x1024 : Shape := ⟨3, ![16, 1, 1024]⟩
abbrev S16x2048x1024 : Shape := ⟨3, ![16, 2048, 1024]⟩
abbrev S16x1x1024x1 : Shape := ⟨4, ![16, 1, 1024, 1]⟩
abbrev S1 : Shape := ⟨1, ![1]⟩
abbrev S1x1x1x1 : Shape := ⟨4, ![1, 1, 1, 1]⟩
abbrev S16x1x2048 : Shape := ⟨3, ![16, 1, 2048]⟩
abbrev S16x2048 : Shape := ⟨2, ![16, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S16x1x1, .i32⟩
  | .hbm, ⟨6, _⟩ => ⟨S16x1x1024, .i32⟩
  | .hbm, ⟨7, _⟩ => ⟨S_, .i32⟩
  | .hbm, ⟨8, _⟩ => ⟨S16x1x1024, .i32⟩
  | .hbm, ⟨9, _⟩ => ⟨S16x2048x1024, .f32⟩
  | .hbm, ⟨10, _⟩ => ⟨S_, .i32⟩
  | .hbm, ⟨11, _⟩ => ⟨S16x1x1024, .i32⟩
  | .hbm, ⟨12, _⟩ => ⟨S16x1x1024, .i1⟩
  | .hbm, ⟨13, _⟩ => ⟨S_, .i32⟩
  | .hbm, ⟨14, _⟩ => ⟨S16x1x1024, .i32⟩
  | .hbm, ⟨15, _⟩ => ⟨S16x1x1024, .i32⟩
  | .hbm, ⟨16, _⟩ => ⟨S16x1x1024, .i32⟩
  | .hbm, ⟨17, _⟩ => ⟨S16x1x1024x1, .i32⟩
  | .hbm, ⟨18, _⟩ => ⟨S1, .i32⟩
  | .hbm, ⟨19, _⟩ => ⟨S_, .i32⟩
  | .hbm, ⟨20, _⟩ => ⟨S16x1x1024x1, .i32⟩
  | .hbm, ⟨21, _⟩ => ⟨S16x1x1024x1, .i1⟩
  | .hbm, ⟨22, _⟩ => ⟨S1x1x1x1, .i32⟩
  | .hbm, ⟨23, _⟩ => ⟨S16x1x1024x1, .i32⟩
  | .hbm, ⟨24, _⟩ => ⟨S16x1x1024x1, .i1⟩
  | .hbm, ⟨25, _⟩ => ⟨S16x1x1024x1, .i1⟩
  | .hbm, ⟨26, _⟩ => ⟨S_, .i1⟩
  | .hbm, ⟨27, _⟩ => ⟨S16x1x1024, .i1⟩
  | .hbm, ⟨28, _⟩ => ⟨S16x1x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x2048x1024, .f32⟩
  | .hbm, ⟨33, _⟩ => ⟨S_, .i32⟩
  | .hbm, ⟨34, _⟩ => ⟨S16x1x1024, .i32⟩
  | .hbm, ⟨35, _⟩ => ⟨S16x1x1024, .i1⟩
  | .hbm, ⟨36, _⟩ => ⟨S_, .i32⟩
  | .hbm, ⟨37, _⟩ => ⟨S16x1x1024, .i32⟩
  | .hbm, ⟨38, _⟩ => ⟨S16x1x1024, .i32⟩
  | .hbm, ⟨39, _⟩ => ⟨S16x1x1024, .i32⟩
  | .hbm, ⟨40, _⟩ => ⟨S16x1x1024x1, .i32⟩
  | .hbm, ⟨41, _⟩ => ⟨S1, .i32⟩
  | .hbm, ⟨42, _⟩ => ⟨S_, .i32⟩
  | .hbm, ⟨43, _⟩ => ⟨S16x1x1024x1, .i32⟩
  | .hbm, ⟨44, _⟩ => ⟨S16x1x1024x1, .i1⟩
  | .hbm, ⟨45, _⟩ => ⟨S1x1x1x1, .i32⟩
  | .hbm, ⟨46, _⟩ => ⟨S16x1x1024x1, .i32⟩
  | .hbm, ⟨47, _⟩ => ⟨S16x1x1024x1, .i1⟩
  | .hbm, ⟨48, _⟩ => ⟨S16x1x1024x1, .i1⟩
  | .hbm, ⟨49, _⟩ => ⟨S_, .i1⟩
  | .hbm, ⟨50, _⟩ => ⟨S16x1x1024, .i1⟩
  | .hbm, ⟨51, _⟩ => ⟨S16x1x1024, .f32⟩
  | .hbm, ⟨52, _⟩ => ⟨S_, .f32⟩
  | .hbm, ⟨53, _⟩ => ⟨S16x1x1024, .f32⟩
  | .hbm, ⟨54, _⟩ => ⟨S16x1x1024, .f32⟩
  | .hbm, ⟨55, _⟩ => ⟨S16x1x2048, .f32⟩
  | .hbm, ⟨56, _⟩ => ⟨S16x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v6 : Ref sig .tc := ⟨.hbm, 31, rfl⟩
abbrev main_v7 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩

abbrev nD : Nat := 1
abbrev τ : Topo := Topo.v7x

variable {F : FTy → Type} [FloatOps F]
-- ==== Proof.Spec.lean ====
/-
  What the kernel computes, as a function, and the geometry of its thirty-two copies.

  The kernel reads a table `X` of 32768 rows of 2048 numbers (row `2048 b + s` is step `s` of sequence `b`) and
  sixteen lengths. Result row `b` has two halves of 1024 numbers. The left half is the left half of the row of the
  last step of sequence `b`, the right half is the right half of the row of its first step. `gathered X len` is that
  array. Half-row `t` of the result (`t = 2 b + h`, `h = 0` left and `h = 1` right) is written by copy `t`: `cell t` is
  the set of elements it writes and `source len t` the set of elements it reads.
-/
module

public import proofs.«01_k».proof.Proof.Gen.KernelIdeal
public import Idealize.ShloMosaic.Lib.ValueIdx

@[expose] public section

noncomputable section

namespace Cert.Proof.Spec

open Cert.KernelIdeal Cert.KernelIdeal.Gen
open Idealize.ShloMosaic Idealize.ShloMosaic.ValueIdx

/-! ## The result -/

/-- The step, counted from 0, at which sequence `b` ends: its length less one, kept below 2048. -/
def lastStep (len : S16.Idx → BitVec 32) (b : Fin 16) : Nat := ((len (ix1 b)).toNat - 1) % 2048

theorem lastStep_lt (len : S16.Idx → BitVec 32) (b : Fin 16) : lastStep len b < 2048 := Nat.mod_lt _ (by decide)

/-- The step that half `h` of result row `b` comes from: the last one for the left half, the first for the right. -/
def stepOf (len : S16.Idx → BitVec 32) (b : Fin 16) (h : Nat) : Nat := if h = 0 then lastStep len b else 0

theorem stepOf_lt (len : S16.Idx → BitVec 32) (b : Fin 16) (h : Nat) : stepOf len b h < 2048 := by
  unfold stepOf; split
  · exact lastStep_lt len b
  · decide

/-- The table row that half `h` of result row `b` comes from. -/
def rowOf (len : S16.Idx → BitVec 32) (b : Fin 16) (h : Nat) : Fin 32768 :=
  ⟨2048 * b.val + stepOf len b h, by have := stepOf_lt len b h; have := b.isLt; omega⟩

/-- The result: element `(b, j)` is element `j` of the table row for half `j / 1024` of row `b`. -/
def gathered {α : Type} (X : S32768x2048.Idx → α) (len : S16.Idx → BitVec 32) : S16x2048.Idx → α :=
  fun y => X (ix2 (rowOf len (y 0) ((y 1).val / 1024)) (y 1))

/-- Every length is a number of steps from 1 to 2048. -/
def Valid (len : S16.Idx → BitVec 32) : Prop := ∀ b : Fin 16, 1 ≤ (len (ix1 b)).toNat ∧ (len (ix1 b)).toNat ≤ 2048

/-! ## The copies -/

/-- The sequence that copy `t` serves. -/
def seqOf (t : Fin 32) : Fin 16 := ⟨t.val / 2, by have := t.isLt; omega⟩

/-- The offsets of the half-row that copy `t` writes. -/
def cellOff (t : Fin 32) : Fin 2 → Nat := ![t.val / 2, 1024 * (t.val % 2)]
/-- The offsets of the half-row that copy `t` reads. -/
def sourceOff (len : S16.Idx → BitVec 32) (t : Fin 32) : Fin 2 → Nat := ![(rowOf len (seqOf t) (t.val % 2)).val, 1024 * (t.val % 2)]

theorem cellOff_inb (t : Fin 32) : ∀ a, cellOff t a + S1x1024.size a ≤ S16x2048.size a
  | 0 => show t.val / 2 + 1 ≤ 16 by have := t.isLt; omega
  | 1 => show 1024 * (t.val % 2) + 1024 ≤ 2048 by omega

theorem sourceOff_inb (len : S16.Idx → BitVec 32) (t : Fin 32) : ∀ a, sourceOff len t a + S1x1024.size a ≤ S32768x2048.size a
  | 0 => show (rowOf len (seqOf t) (t.val % 2)).val + 1 ≤ 32768 from (rowOf len (seqOf t) (t.val % 2)).isLt
  | 1 => show 1024 * (t.val % 2) + 1024 ≤ 2048 by omega

/-- The rectangle of the result that copy `t` writes, -/
abbrev cellRect (t : Fin 32) : Rect S16x2048 := Rect.unit (s := S16x2048) (cellOff t) S1x1024.size (cellOff_inb t)
/-- and the rectangle of the table that it reads; -/
abbrev sourceRect (len : S16.Idx → BitVec 32) (t : Fin 32) : Rect S32768x2048 :=
  Rect.unit (s := S32768x2048) (sourceOff len t) S1x1024.size (sourceOff_inb len t)
/-- each as a set of elements. -/
abbrev cell (t : Fin 32) : Finset S16x2048.Idx := (cellRect t).set
abbrev source (len : S16.Idx → BitVec 32) (t : Fin 32) : Finset S32768x2048.Idx := (sourceRect len t).set

/-- An element is in half-row `t` when its row is `t / 2` and its column lies in half `t % 2`. -/
theorem mem_cell (t : Fin 32) (y : S16x2048.Idx) :
    y ∈ cell t ↔ (y 0).val = t.val / 2 ∧ 1024 * (t.val % 2) ≤ (y 1).val ∧ (y 1).val < 1024 * (t.val % 2) + 1024 := by
  rw [Rect.mem_set_unit]
  constructor
  · intro h
    have h0 : t.val / 2 ≤ (y 0).val ∧ (y 0).val < t.val / 2 + 1 := h 0
    have h1 : 1024 * (t.val % 2) ≤ (y 1).val ∧ (y 1).val < 1024 * (t.val % 2) + 1024 := h 1
    exact ⟨by omega, h1⟩
  · rintro ⟨h0, h1⟩ a
    match a with
    | 0 => show t.val / 2 ≤ (y 0).val ∧ (y 0).val < t.val / 2 + 1; omega
    | 1 => exact h1

/-- Two copies write no element in common. -/
theorem cell_disjoint (t t' : Fin 32) (h : t ≠ t') : Disjoint (cell t) (cell t') := by
  rw [Finset.disjoint_left]
  intro y hy hy'
  rw [mem_cell] at hy hy'
  exact h (Fin.ext (by omega))

/-- Together the copies write every element of the result. -/
theorem cell_cover : (Finset.univ : Finset (Fin 32)).biUnion cell = Finset.univ := by
  ext y
  have h0 : (y 0).val < 16 := idx2_lt0 y
  have h1 : (y 1).val < 2048 := idx2_lt1 y
  simp only [Finset.mem_biUnion, Finset.mem_univ, true_and, iff_true]
  exact ⟨⟨2 * (y 0).val + (y 1).val / 1024, by omega⟩, (mem_cell _ _).mpr ⟨by show _ = (2 * (y 0).val + (y 1).val / 1024) / 2; omega,
    by show 1024 * ((2 * (y 0).val + (y 1).val / 1024) % 2) ≤ _; omega,
    by show _ < 1024 * ((2 * (y 0).val + (y 1).val / 1024) % 2) + 1024; omega⟩⟩

/-- What copy `t` moves: the table's element at place `x` of the half-row it reads is the result's element at place
    `x` of the half-row it writes. -/
theorem gathered_cell {α : Type} (X : S32768x2048.Idx → α) (len : S16.Idx → BitVec 32) (t : Fin 32)
    (x : (cellRect t).shape.Idx) : gathered X len ((cellRect t).emb x) = X ((sourceRect len t).emb x) := by
  have hx0 : (x 0).val < 1 := (x 0).isLt
  have hx1 : (x 1).val < 1024 := (x 1).isLt
  have e0 : (((cellRect t).emb x) 0).val = t.val / 2 := by
    rw [Rect.emb_apply]; show t.val / 2 + 1 * (x 0).val = _; omega
  have e1 : (((cellRect t).emb x) 1).val = 1024 * (t.val % 2) + (x 1).val := by
    rw [Rect.emb_apply]; show 1024 * (t.val % 2) + 1 * (x 1).val = _; omega
  unfold gathered
  congr 1
  funext a
  apply Fin.ext
  match a with
  | 0 =>
    show (rowOf len (((cellRect t).emb x) 0) ((((cellRect t).emb x) 1).val / 1024)).val
      = (rowOf len (seqOf t) (t.val % 2)).val + 1 * (x 0).val
    have hb : ((cellRect t).emb x) 0 = seqOf t := Fin.ext e0
    rw [hb, e1, show (1024 * (t.val % 2) + (x 1).val) / 1024 = t.val % 2 by omega]
    omega
  | 1 =>
    show (((cellRect t).emb x) 1).val = 1024 * (t.val % 2) + 1 * (x 1).val
    omega

/-! ## The kernel's own offsets -/

/-- The loop that starts the copies makes at most sixteen trips. -/
theorem issue_lt (k : Fin k0_t1_loop.trips) : k.val < 16 := lt_of_lt_of_le k.isLt k0_t1_abs.2.1
theorem issue_trips : k0_t1_loop.trips = 16 := by decide +kernel
theorem drain_trips : k0_t2_loop.trips = 32 := by decide +kernel

/-- The two copies that trip `k` starts. -/
abbrev leftOf (k : Fin k0_t1_loop.trips) : Fin 32 := ⟨2 * k.val, by have := issue_lt k; omega⟩
abbrev rightOf (k : Fin k0_t1_loop.trips) : Fin 32 := ⟨2 * k.val + 1, by have := issue_lt k; omega⟩

theorem off2_cell (k : Fin k0_t1_loop.trips) : k0_off2 k = cellOff (leftOf k) := by
  rw [k0_off2_eq]; unfold cellOff
  funext a
  match a with
  | 0 => show k.val = 2 * k.val / 2; omega
  | 1 => show 0 = 1024 * (2 * k.val % 2); omega

theorem off4_cell (k : Fin k0_t1_loop.trips) : k0_off4 k = cellOff (rightOf k) := by
  rw [k0_off4_eq]; unfold cellOff
  funext a
  match a with
  | 0 => show k.val = (2 * k.val + 1) / 2; omega
  | 1 => show 1024 = 1024 * ((2 * k.val + 1) % 2); omega

/-- The word of trip `k`'s length. -/
abbrev lenAt (len : S16.Idx → BitVec 32) (k : Fin k0_t1_loop.trips) : BitVec 32 := len (ix1 ⟨k.val, issue_lt k⟩)

/-- With a valid length the row that the kernel computes for trip `k`'s left copy is the row of the last step. -/
theorem off3_source (len : S16.Idx → BitVec 32) (hv : Valid len) (k : Fin k0_t1_loop.trips) :
    k0_off3 k (lenAt len k) = sourceOff len (leftOf k) := by
  have hk := issue_lt k
  have hb : seqOf (leftOf k) = ⟨k.val, hk⟩ := Fin.ext (by show 2 * k.val / 2 = k.val; omega)
  obtain ⟨h1, h2⟩ := hv ⟨k.val, hk⟩
  have hiv : (Scf.iv 0#32 1#32 k : BitVec 32).toNat = k.val := by
    have e : ∀ k : Fin k0_t1_loop.trips, (Scf.iv 0#32 1#32 k : BitVec 32).toNat = k.val := by decide +kernel
    exact e k
  unfold sourceOff
  rw [hb]
  funext a
  match a with
  | 0 =>
    show (Scalar.subi (Scalar.addi (Scalar.muli (Scf.iv 0#32 1#32 k) 2048#32) (lenAt len k)) 1#32).toNat
      = 2048 * k.val + stepOf len ⟨k.val, hk⟩ (2 * k.val % 2)
    rw [show 2 * k.val % 2 = 0 by omega, show stepOf len ⟨k.val, hk⟩ 0 = lastStep len ⟨k.val, hk⟩ from rfl]
    unfold lastStep
    show ((Scf.iv 0#32 1#32 k * 2048#32 + lenAt len k) - 1#32).toNat = _
    rw [BitVec.toNat_sub, BitVec.toNat_add, BitVec.toNat_mul, hiv]
    simp only [BitVec.toNat_ofNat]
    unfold lenAt
    omega
  | 1 => show 0 = 1024 * (2 * k.val % 2); omega

/-- The row that the kernel computes for trip `k`'s right copy is the row of the first step. -/
theorem off5_source (len : S16.Idx → BitVec 32) (k : Fin k0_t1_loop.trips) : k0_off5 k = sourceOff len (rightOf k) := by
  have hk := issue_lt k
  rw [k0_off5_eq]; unfold sourceOff
  funext a
  match a with
  | 0 =>
    show 2048 * k.val = 2048 * ((2 * k.val + 1) / 2) + stepOf len _ ((2 * k.val + 1) % 2)
    rw [show (2 * k.val + 1) % 2 = 1 by omega, show stepOf len (seqOf (rightOf k)) 1 = 0 from rfl]
    omega
  | 1 => show 1024 = 1024 * ((2 * k.val + 1) % 2); omega

/-- With a valid length the row read by trip `k`'s left copy lies in the table: the check that the kernel makes. -/
theorem check_holds (len : S16.Idx → BitVec 32) (hv : Valid len) (k : Fin k0_t1_loop.trips) : k0_chk1 k (lenAt len k) := by
  unfold k0_chk1
  rw [off3_source len hv k]
  exact sourceOff_inb len (leftOf k)

end Cert.Proof.Spec

end
-- ==== Proof.Setup.lean ====
/-
  The setting of the kernel's proof: the program as a launch of one scalar-subcore kernel, the resources the proof
  uses, the arrays, and what the call is given and gives back.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as a launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The proof's resources: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The sequences as the program is given them, the lengths, the table of rows, and the result. -/
abbrev seqLoc (d : Dev nD) : Loc nD τ sig := (SparseCore.T d).loc main_arg0
abbrev lenLoc (d : Dev nD) : Loc nD τ sig := (SparseCore.T d).loc main_arg1
abbrev tabLoc (d : Dev nD) : Loc nD τ sig := (SparseCore.T d).loc main_v0
abbrev outLoc (d : Dev nD) : Loc nD τ sig := (SparseCore.T d).loc main_v1
/-- The sequencer's own copy of the lengths. -/
abbrev bufLoc (d : Dev nD) (c : Fin τ.nSC) : Loc nD τ sig := (S d c).loc cc0_scratch0

/-- The arrays as the kernel names them. -/
abbrev tabM : Memref sig .scScalar .hbm S32768x2048 .f32 := Memref.whole main_v0_scs
abbrev lenM : Memref sig .scScalar .hbm S16 .i32 := Memref.whole main_arg1_scs
abbrev outM : Memref sig .scScalar .hbm S16x2048 .f32 := Memref.whole main_v1_scs
abbrev bufM : Memref sig .scScalar .smem S16 .i32 := Memref.whole cc0_scratch0

/-- The kernel's two semaphores: the one the lengths arrive on, the one the thirty-two copies share. -/
abbrev lenCell (d : Dev nD) (c : Fin τ.nSC) : GSem nD τ sig := (S d c, .dma cc0_scoped0.sem)
abbrev rowCell (d : Dev nD) (c : Fin τ.nSC) : GSem nD τ sig := (S d c, .dma cc0_scratch1.sem)

/-- The result of the call on device `d`, from a table `X` and lengths `ln`. -/
abbrev result {d : Dev nD} (X : Buf (Elt F) (tabLoc d)) (ln : Buf (Elt F) (lenLoc d)) : Buf (Elt F) (outLoc d) :=
  gathered (α := Elt F .f32) X ln

end Cert.Proof.Run

end
-- ==== Proof.Body.lean ====
/-
  The kernel's run on its sequencer.

  The lengths are copied to scalar memory and the copy is waited for. A loop of sixteen trips then starts two copies
  per trip, all thirty-two on one semaphore. A second loop waits thirty-two times on that semaphore, each time for one
  half-row's worth. No single wait says which copy ended; after the last one all have, and each has written its
  half-row of the result. Throughout, what each copy will have written is stated by value.
-/
module

public import proofs.«01_k».proof.Proof.Setup

@[expose] public section

noncomputable section

namespace Cert.Proof.Run

open Cert.KernelIdeal Cert.KernelIdeal.Gen Cert.Proof.Spec

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable (d : Dev nD) (L : grid0.Coords)

/-- The sequencer that runs the kernel. -/
abbrev cS (L : grid0.Coords) : Fin τ.nSC := (L 0).castLE hcore0

variable (X : Buf (Elt F) (tabLoc d)) (ln : Buf (Elt F) (lenLoc d)) (f0 : Buf (Elt F) (outLoc d))

/-! ## The copies' resources -/

/-- Copy `t`'s share of the table: of thirty-two equal claims to read it, the `t`-th. -/
abbrev shr (t : Fin 32) : PosShare TreeShare := Transfers.shareTok fullShare 32 t

/-- What copy `t` needs: its half-row of the result, as yet unwritten, and the half-row of the table it reads. -/
def before (t : Fin 32) : sProp 𝕄 :=
  iprop((outLoc d ↦[cell t]{fullShare} f0) ∗ (tabLoc d ↦[source ln t]{shr t} X))
/-- What copy `t` leaves: its half-row of the result, written, and the half-row of the table back. -/
def after (t : Fin 32) : sProp 𝕄 :=
  iprop((outLoc d ↦[cell t]{fullShare} result X ln) ∗ (tabLoc d ↦[source ln t]{shr t} X))

instance after_storable (t : Fin 32) : BI.Storable (upEmb : UEmb _ 𝕄) (after d X ln t) := by
  unfold after; infer_instance

/-- A slice of the result at the offsets of copy `t`'s half-row covers that half-row, -/
theorem set_out {off : Fin 2 → Nat} (inb) (t : Fin 32) (h : off = cellOff t) :
    (outM.slice (Rect.unit (s := S16x2048) off S1x1024.size inb) (fun _ => rfl)).view.set = cell t := by
  subst h; exact View.set_slice_whole _ _
/-- a slice of the table at the offsets of what it reads covers that, -/
theorem set_tab {off : Fin 2 → Nat} (inb) (t : Fin 32) (h : off = sourceOff ln t) :
    (tabM.slice (Rect.unit (s := S32768x2048) off S1x1024.size inb) (fun _ => rfl)).view.set = source ln t := by
  subst h; exact View.set_slice_whole _ _

/-- and writing the first with what the second reads leaves the result's own values there. -/
theorem lands {off off' : Fin 2 → Nat} (inb) (inb') (t : Fin 32) (h : off = cellOff t) (h' : off' = sourceOff ln t) :
    ∀ y ∈ cell t, (outM.slice (Rect.unit (s := S16x2048) off S1x1024.size inb) (fun _ => rfl)).view.write (Elt F) f0
        ((tabM.slice (Rect.unit (s := S32768x2048) off' S1x1024.size inb') (fun _ => rfl)).view.read (Elt F) X) Finset.univ y
      = result X ln y := by
  subst h; subst h'
  intro y hy
  replace hy : y ∈ (cellRect t).set := hy
  rw [← Rect.map_emb_univ] at hy
  obtain ⟨x, -, rfl⟩ := Finset.mem_map.mp hy
  refine (View.write_emb_of_mem (v := (outM.slice (cellRect t) (fun _ => rfl)).view) f0 _ (Finset.mem_univ x)).trans ?_
  exact (gathered_cell (α := Elt F .f32) X ln t x).symm

/-- The units a half-row's arrival adds to the semaphore. -/
abbrev unitsOf : Nat := (outM.slice (Rect.unit (s := S16x2048) ![0, 0] S1x1024.size inb_S16x2048_S1x1024_0_0) (fun _ => rfl)).view.dmaCredit

theorem units_pos : 0 < unitsOf := View.dmaCredit_pos _ (by decide)

/-! ## Starting the copies -/

/-- Between trips of the first loop, `k` trips done: `2 k` copies started and none waited for, the resources of the
    others in hand, and the sequencer's copy of the lengths. -/
def started (k : Nat) : sProp 𝕄 :=
  iprop(Transfers.Batch countersEmb (S d (cS L)) (.dma cc0_scratch1.sem) (none : HIx 1) unitsOf (after d X ln) (2 * k) 0
    ∗ bigSep (Transfers.pending (2 * k)) (before d X ln f0)
    ∗ (bufLoc d (cS L) ↦{fullShare} ln))

/-- The element the trip loads from the sequencer's copy of the lengths is the length of the trip's sequence. -/
theorem read_len (k : Fin k0_t1_loop.trips) (x) :
    (bufM.access (Rect.unit (s := S16) (k0_off1 k) S1.size (k0_off1_inb k))).read (Elt F) ln x
      = lenAt ln k := by
  refine congrArg (ln : S16.Idx → BitVec 32) (funext fun a => Fin.ext ?_)
  match a with
  | ⟨0, _⟩ =>
    show k0_off1 k 0 + 1 * (x 0).val = k.val
    have h1 : (x 0).val < 1 := (x 0).isLt
    have h2 : k0_off1 k 0 = k.val := congrFun (k0_off1_eq k) 0
    omega

/-- The start of one copy, from a half-row of the table to a half-row of the result: the next of the thirty-two. -/
theorem start_copy {α : Type} {Q : α → sProp 𝕄} {off off' : Fin 2 → Nat} (inb) (inb') (t : Fin 32) (j : Nat) (ht : j = t.val)
    (h : off = cellOff t) (h' : off' = sourceOff ln t) (hs hd hsem)
    (k : PUnit → Prog (TpuEff nD τ sig (Elt F) Λ₀ (.scScalar (cS L))) α) :
    iprop(before d X ln f0 t ∗ Transfers.Batch countersEmb (S d (cS L)) (.dma cc0_scratch1.sem) (none : HIx 1) unitsOf (after d X ln) j 0)
      ⊢ iprop((Transfers.Batch countersEmb (S d (cS L)) (.dma cc0_scratch1.sem) (none : HIx 1) unitsOf (after d X ln) (j + 1) 0
          -∗ wp frame (wpE (defs₀ (F := F)) 𝒱₀ (S d (cS L)) none) Set.univ (k ⟨⟩) Q)
        -∗ wp frame (wpE (defs₀ (F := F)) 𝒱₀ (S d (cS L)) none) Set.univ
          (.op (.enqueueDma (tabM.slice (Rect.unit (s := S32768x2048) off' S1x1024.size inb') (fun _ => rfl))
            (.here (outM.slice (Rect.unit (s := S16x2048) off S1x1024.size inb) (fun _ => rfl))) (.dma cc0_scratch1.sem) hs hd hsem) k) Q) := by
  have hT := set_tab d ln inb' t h'
  have hO := set_out inb t h
  have hland := lands d X ln f0 inb inb' t h h'
  have hw := Transfers.wp_dmaBatch (defs := defs₀ (F := F)) (Q := Q) (k := k) (hsrc := hs) (hdst := hd) (hsem := hsem)
    countersEmb 𝒱₀ (S d (cS L)) none (none : HIx 1) unitsOf (via := .same) (dst := outM.slice (Rect.unit (s := S16x2048) off S1x1024.size inb) (fun _ => rfl))
    (src := tabM.slice (Rect.unit (s := S32768x2048) off' S1x1024.size inb') (fun _ => rfl))
    (Sd := cell t) (fs := X) (fd := f0)
    (q := shr t) (j := j) (n := 32) (D := after d X ln) (u := 0) rfl hO.subset (by omega) (Nat.zero_le _)
    (by
      subst ht
      unfold after
      rw [hT]
      exact sep_mono (Entails.of_eq (pointsTo_congr hland)) .rfl)
  rw [hT] at hw
  unfold before
  iintro ⟨⟨H1, H2⟩, H3⟩
  iapply hw $$ [H1 H2 H3]
  isplitl [H2]; · iexact H2
  isplitl [H1]; · iexact H1
  iexact H3

set_option maxHeartbeats 1000000 in
/-- One trip of the first loop. -/
theorem issue_trip (hv : Valid ln) (k : Fin k0_t1_loop.trips) :
    started d L X ln f0 k.val ⊢ wp frame (wpE (defs₀ (F := F)) 𝒱₀ (S d (cS L)) none) Set.univ
      (k0_t1_body (F := F) L tabM (Memref.isWhole_whole _) lenM (Memref.isWhole_whole _) outM (Memref.isWhole_whole _)
        bufM (Memref.isWhole_whole _) cc0_scratch1 cc0_scoped0 k ⟨⟩)
      fun _ => started d L X ln f0 (k.val + 1) := by
  have hk := issue_lt k
  unfold started k0_t1_body
  rw [Transfers.bigSep_pending_step (before d X ln f0) (2 * k.val) (by omega),
    Transfers.bigSep_pending_step (before d X ln f0) (2 * k.val + 1) (by omega)]
  simp only [Prog.lift, Prog.bind_op, Prog.bind_ret, Prog.pure_eq_ret, smemLoad, smemLoadElt]
  iintro ⟨HB, ⟨Hl, Hr, Hp⟩, Hs⟩
  iapply (wp_load_rect 𝒱₀ (S d (cS L)) none Set.univ (S := Finset.univ) (q := fullShare) (f := ln) (Finset.subset_univ _)) $$ [Hs]
  · iexact Hs
  iintro Hs
  rw [read_len d ln k, wp_assume_of 𝒱₀ (S d (cS L)) none Set.univ (check_holds ln hv k)]
  iapply (start_copy d L X ln f0 _ _ (leftOf k) (2 * k.val) rfl (off2_cell k) (off3_source ln hv k)) $$ [Hl HB]
  · isplitl [Hl] <;> iassumption
  iintro HB
  iapply (start_copy d L X ln f0 _ _ (rightOf k) (2 * k.val + 1) rfl (off4_cell k) (off5_source ln k)) $$ [Hr HB]
  · isplitl [Hr] <;> iassumption
  iintro HB
  rw [wp_ret]
  imodintro
  isplitl [HB]; · iexact HB
  isplitl [Hp]; · iexact Hp
  iexact Hs

/-! ## Waiting for them -/

/-- Between trips of the second loop, `k` trips done: all thirty-two copies started, `k` half-rows' worth waited for,
    and the waits recorded. -/
def drained (O : CellTallies nD τ sig (HIx 1)) (W : Waits sig (HIx 1)) (k : Nat) : sProp 𝕄 :=
  iprop(levAts (K (F := F)).L (K (F := F)).lev
    ∗ Transfers.Batch countersEmb (S d (cS L)) (.dma cc0_scratch1.sem) (none : HIx 1) unitsOf (after d X ln) 32 (k * unitsOf)
    ∗ ∃ W', ⌜∀ p ∈ W', p ∈ W ∨ p.2 = none⌝ ∗ owes (S d (cS L)) O W')

/-- One trip of the second loop. -/
theorem drain_trip (O : CellTallies nD τ sig (HIx 1)) (W : Waits sig (HIx 1)) (hO : ∀ g, O g none = 0) (k : Fin k0_t2_loop.trips) :
    drained d L X ln O W k.val ⊢ wp frame (wpE (defs₀ (F := F)) 𝒱₀ (S d (cS L)) none) Set.univ
      (k0_t2_body (F := F) L tabM (Memref.isWhole_whole _) lenM (Memref.isWhole_whole _) outM (Memref.isWhole_whole _)
        bufM (Memref.isWhole_whole _) cc0_scratch1 cc0_scoped0 k ⟨⟩)
      fun _ => drained d L X ln O W (k.val + 1) := by
  have hk : k.val < 32 := lt_of_lt_of_eq k.isLt drain_trips
  unfold drained k0_t2_body
  simp only [Prog.lift, Prog.bind_op, Prog.bind_ret, Prog.pure_eq_ret]
  iintro ⟨#Hlv, HB, %W', %hW', HO⟩
  iapply (Transfers.wp_waitBatchMulO countersEmb 𝒱₀ (S d (cS L)) none (none : HIx 1) 1 (N := unitsOf) (D := after d X ln)
    (j := 32) (u := k.val * unitsOf) (O := O) (W := W') (Nat.one_mul _).symm
    (by rw [← Nat.add_mul, Nat.mul_comm unitsOf]; exact Nat.mul_le_mul_right _ (by omega))) $$ [HB HO]
  · isplitl [HB]; · iexact HB
    isplitl [HO]; · iexact HO
    iapply ((K (F := F)).mayWait_none (SemLoc.dma cc0_scratch1.sem) hO); iexact Hlv
  iintro ⟨HB, HO⟩
  rw [← Nat.add_mul, wp_ret]
  imodintro
  isplitr; · iexact Hlv
  isplitl [HB]; · iexact HB
  iexists (insert (SemLoc.dma cc0_scratch1.sem, none) W'); isplitr
  · ipureintro; intro p hp
    rcases Finset.mem_insert.mp hp with rfl | hp
    · exact .inr rfl
    · exact hW' p hp
  iexact HO

/-! ## The copies' resources out of the arrays, and back -/

/-- The part of the table that is no copy's: each copy's claim outside what the copy reads, and what is left of the
    whole claim. -/
def rest : sProp 𝕄 :=
  iprop((tabLoc d ↦{Transfers.shareDrop fullShare 32} X)
    ∗ bigSep Finset.univ fun t : Fin 32 => (tabLoc d ↦[Finset.univ \ source ln t]{shr t} X : sProp 𝕄))

/-- The whole table is what the copies read and the part that is no copy's. -/
theorem table_split :
    (tabLoc d ↦{fullShare} X : sProp 𝕄)
      ⊣⊢ iprop((bigSep Finset.univ fun t : Fin 32 => (tabLoc d ↦[source ln t]{shr t} X : sProp 𝕄)) ∗ rest d X ln) := by
  have h1 := Transfers.pointsTo_toks (ℓ := tabLoc d) (S := Finset.univ) (f := X) (Ix := HIx 1) (Name := ℕ) (U := UU) (Lvl := ℕ) fullShare 32
  have h2 : ∀ t : Fin 32, (tabLoc d ↦{shr t} X : sProp 𝕄) = iprop((tabLoc d ↦[source ln t]{shr t} X) ∗ tabLoc d ↦[Finset.univ \ source ln t]{shr t} X) :=
    fun t =>
      have h := pointsTo_split_subset (ℓ := tabLoc d) (q := shr t) (f := X) (Ix := HIx 1) (Name := ℕ) (U := UU) (Lvl := ℕ) (Finset.subset_univ (source ln t))
      BI.equiv_iff.mp ⟨h.1, h.2⟩
  have h3 : (bigSep Finset.univ fun t : Fin 32 => (tabLoc d ↦{shr t} X : sProp 𝕄))
      = iprop((bigSep Finset.univ fun t : Fin 32 => (tabLoc d ↦[source ln t]{shr t} X : sProp 𝕄))
        ∗ bigSep Finset.univ fun t : Fin 32 => (tabLoc d ↦[Finset.univ \ source ln t]{shr t} X : sProp 𝕄)) := by
    rw [← bigSep_sep']; exact bigSep_congr fun t _ => h2 t
  unfold rest
  constructor
  · iintro H
    ihave H := h1.1 $$ H
    icases H with ⟨Hd, Ht⟩
    ihave Ht := (Entails.of_eq h3) $$ Ht
    icases Ht with ⟨Ha, Hb⟩
    isplitl [Ha]; · iexact Ha
    isplitl [Hd]; · iexact Hd
    iexact Hb
  · iintro ⟨Ha, Hd, Hb⟩
    iapply h1.2
    isplitl [Hd]; · iexact Hd
    iapply (Entails.of_eq h3.symm)
    isplitl [Ha]; · iexact Ha
    iexact Hb

/-- The result, at any contents, is its half-rows. -/
theorem out_cells (g : Buf (Elt F) (outLoc d)) :
    (outLoc d ↦{fullShare} g : sProp 𝕄) = bigSep Finset.univ fun t : Fin 32 => (outLoc d ↦[cell t]{fullShare} g : sProp 𝕄) := by
  rw [← pointsTo_biUnion (ℓ := outLoc d) Finset.univ cell (fun t _ t' _ h => cell_disjoint t t' h), cell_cover]

/-- Table and result give every copy what it needs; -/
theorem gather_before : iprop((tabLoc d ↦{fullShare} X) ∗ (outLoc d ↦{fullShare} f0))
    ⊢ (iprop(bigSep Finset.univ (before d X ln f0) ∗ rest d X ln) : sProp 𝕄) := by
  have h : bigSep Finset.univ (before d X ln f0) = iprop((bigSep Finset.univ fun t : Fin 32 => (outLoc d ↦[cell t]{fullShare} f0 : sProp 𝕄))
      ∗ bigSep Finset.univ fun t : Fin 32 => (tabLoc d ↦[source ln t]{shr t} X : sProp 𝕄)) := bigSep_sep' _ _ _
  rw [h, ← out_cells]
  iintro ⟨Ht, Ho⟩
  ihave Ht := (table_split d X ln).1 $$ Ht
  icases Ht with ⟨Ht, Hr⟩
  isplitl [Ht Ho]
  · isplitl [Ho] <;> iassumption
  iexact Hr

/-- what the copies leave is the table and the result, written. -/
theorem gather_after : (iprop(bigSep Finset.univ (after d X ln) ∗ rest d X ln) : sProp 𝕄)
    ⊢ iprop((tabLoc d ↦{fullShare} X) ∗ (outLoc d ↦{fullShare} result X ln)) := by
  have h : bigSep Finset.univ (after d X ln) = iprop((bigSep Finset.univ fun t : Fin 32 => (outLoc d ↦[cell t]{fullShare} result X ln : sProp 𝕄))
      ∗ bigSep Finset.univ fun t : Fin 32 => (tabLoc d ↦[source ln t]{shr t} X : sProp 𝕄)) := bigSep_sep' _ _ _
  rw [h, ← out_cells]
  iintro ⟨⟨Ho, Ht⟩, Hr⟩
  isplitl [Ht Hr]
  · iapply (table_split d X ln).2
    isplitl [Ht] <;> iassumption
  iexact Ho

/-! ## The sequencer's own semaphores and memory -/

omit [FloatOps F] in
/-- The kernel's two semaphores are among the sequencer's own. -/
theorem ownSems_eq (c : Fin τ.nSC) :
    (ownSems0 (S d c) : sProp 𝕄)
      = iprop(semVal (lenCell d c) 0 ∗ semVal (rowCell d c) 0
        ∗ bigSep (((ownCells (S d c)).erase (lenCell d c)).erase (rowCell d c)) fun g => semVal g 0) := by
  unfold SparseCore.Cfg.ownSems0
  rw [SparseCore.bigSep_erase' ((mem_ownCells (g := lenCell d c)).mpr ⟨rfl, by
      show (SemLoc.dma cc0_scoped0.sem : SemLoc sig).isScoped .scScalar = true; decide⟩),
    SparseCore.bigSep_erase' (Finset.mem_erase.mpr ⟨by simp [rowCell, lenCell]; decide, (mem_ownCells (g := rowCell d c)).mpr ⟨rfl, by
      show (SemLoc.dma cc0_scratch1.sem : SemLoc sig).isScoped .scScalar = true; decide⟩⟩)]

omit [FloatOps F] in
/-- The memory the lengths are copied to is among the sequencer's own. -/
theorem ownBufs_eq (c : Fin τ.nSC) :
    (ownBufs (S d c) : sProp 𝕄)
      = iprop((∃ f, bufLoc d c ↦{fullShare} f)
        ∗ bigSep ((ownRefs (τ := τ) (.scScalar c)).erase ((Proc.scScalar c).devRef cc0_scratch0))
            fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

/-! ## The copy of the lengths -/

/-- What the copy of the lengths leaves: the sequencer's memory holding them, and the lengths back. -/
def fetched (_ : Fin 1) : sProp 𝕄 :=
  iprop((bufLoc d (cS L) ↦{fullShare} ln) ∗ (lenLoc d ↦{fullShare} ln))

instance fetched_storable (t : Fin 1) : BI.Storable (upEmb : UEmb _ 𝕄) (fetched d L ln t) := by
  unfold fetched; infer_instance

/-- The units the lengths' arrival adds to its semaphore. -/
abbrev unitsLen : Nat := bufM.view.dmaCredit

theorem unitsLen_pos : 0 < unitsLen := View.dmaCredit_pos _ (by decide)

set_option maxHeartbeats 1000000 in
/-- The copy of the lengths and the wait for it, at the head of a program: from its semaphore at zero, the sequencer's
    memory at any contents and the lengths, the program goes on with the memory holding the lengths. -/
theorem fetch {α : Type} {Q : α → sProp 𝕄} (g : Buf (Elt F) (bufLoc d (cS L))) (O : CellTallies nD τ sig (HIx 1)) (W : Waits sig (HIx 1))
    (hO : ∀ g, O g none = 0) (hs hd hsem) (hs' hd')
    (k : PUnit → Prog (TpuEff nD τ sig (Elt F) Λ₀ (.scScalar (cS L))) α) :
    iprop(levAts (K (F := F)).L (K (F := F)).lev ∗ semVal (lenCell d (cS L)) 0 ∗ (bufLoc d (cS L) ↦{fullShare} g) ∗ (lenLoc d ↦{fullShare} ln)
        ∗ owes (S d (cS L)) O W)
      ⊢ iprop((iprop(semVal (lenCell d (cS L)) 0 ∗ (bufLoc d (cS L) ↦{fullShare} ln) ∗ (lenLoc d ↦{fullShare} ln)
            ∗ owes (S d (cS L)) O (insert (SemLoc.dma cc0_scoped0.sem, none) W))
          -∗ wp frame (wpE (defs₀ (F := F)) 𝒱₀ (S d (cS L)) none) Set.univ (k ⟨⟩) Q)
        -∗ wp frame (wpE (defs₀ (F := F)) 𝒱₀ (S d (cS L)) none) Set.univ
          (.op (.enqueueDma lenM (.here bufM) (.dma cc0_scoped0.sem) hs hd hsem) fun _ =>
            .op (.waitDma2 cc0_scoped0.sem lenM bufM hs' hd') k) Q) := by
  have hS : lenM.view.set = Finset.univ := View.set_whole _
  have hw := Transfers.wp_dmaBatch (defs := defs₀ (F := F)) (Q := Q) (hsrc := hs) (hdst := hd) (hsem := hsem)
    (k := fun _ => .op (.waitDma2 cc0_scoped0.sem lenM bufM hs' hd') k)
    countersEmb 𝒱₀ (S d (cS L)) none (none : HIx 1) unitsLen (via := .same) (dst := bufM) (src := lenM)
    (Sd := Finset.univ) (fs := ln) (fd := g)
    (q := fullShare) (j := 0) (n := 1) (D := fetched d L ln) (u := 0) rfl (Finset.subset_univ _) (by omega) (Nat.zero_le _)
    (by
      unfold fetched
      rw [hS]
      refine sep_mono (Entails.of_eq (pointsTo_congr fun y _ => ?_)) .rfl
      exact congrFun (View.write_whole_univ (Val := Elt F) cc0_scratch0 g ln) y)
  rw [hS] at hw
  iintro ⟨#Hlv, Hsem, Hb, Hl, HO⟩ Hk
  imod (Transfers.batch_alloc' (Lvl := ℕ) countersEmb (S d (cS L)) (none : HIx 1) unitsLen (fetched d L ln) (sm := .dma cc0_scoped0.sem) (E := Set.univ)) $$ Hsem with HB
  iapply hw $$ [Hb Hl HB]
  · isplitl [Hl]; · iexact Hl
    isplitl [Hb]; · iexact Hb
    iexact HB
  iintro HB
  iapply (Transfers.wp_waitBatchMulO countersEmb 𝒱₀ (S d (cS L)) none (none : HIx 1) 1 (N := unitsLen) (D := fetched d L ln)
    (j := 0 + 1) (u := 0) (O := O) (W := W) (Nat.one_mul _).symm (by omega)) $$ [HB HO]
  · isplitl [HB]; · iexact HB
    isplitl [HO]; · iexact HO
    iapply ((K (F := F)).mayWait_none (SemLoc.dma cc0_scoped0.sem) hO); iexact Hlv
  iintro ⟨HB, HO⟩
  rw [show 0 + 1 * unitsLen = unitsLen * 1 by omega]
  imod (Transfers.batch_collect' countersEmb (S d (cS L)) (n := 1) unitsLen_pos (D := fetched d L ln)) $$ HB with ⟨HD, Hsem⟩
  ihave HD := (Entails.of_eq (bigSep_univ_of_subsingleton (0 : Fin 1) (Φ := fetched d L ln))) $$ HD
  unfold fetched
  icases HD with ⟨Hb, Hl⟩
  iapply Hk
  isplitl [Hsem]; · iexact Hsem
  isplitl [Hb]; · iexact Hb
  isplitl [Hl]; · iexact Hl
  iexact HO

/-! ## The whole kernel -/

set_option maxHeartbeats 2000000 in
/-- The kernel on its sequencer, from the launch's levels, the table, lengths in range, the result's array, the
    sequencer's storage and what it owes: it ends with the result at `result X ln` and the rest as it was, having
    recorded only its own waits. -/
theorem body (hv : Valid ln) (O : CellTallies nD τ sig (HIx 1)) (W : Waits sig (HIx 1)) (hO : ∀ g, O g none = 0) :
    iprop((levAts (K (F := F)).L (K (F := F)).lev : sProp 𝕄) ∗ emp
        ∗ ((tabLoc d ↦{fullShare} X) ∗ (lenLoc d ↦{fullShare} ln) ∗ (outLoc d ↦{fullShare} f0))
        ∗ scopedBufs (S d (cS L)) ∗ scopedSems0 (S d (cS L)) ∗ owes (S d (cS L)) O W)
      ⊢ wp frame (wpE (defs₀ (F := F)) 𝒱₀ (S d (cS L)) none) Set.univ
          (cc0_k (F := F) L tabM (Memref.isWhole_whole _) lenM (Memref.isWhole_whole _) outM (Memref.isWhole_whole _)
            bufM (Memref.isWhole_whole _) cc0_scratch1 cc0_scoped0)
          fun _ => iprop(((tabLoc d ↦{fullShare} X) ∗ (lenLoc d ↦{fullShare} ln) ∗ (outLoc d ↦{fullShare} result X ln))
            ∗ scopedBufs (S d (cS L)) ∗ scopedSems0 (S d (cS L))
            ∗ ∃ W', ⌜∀ p ∈ W', p ∈ W ∨ p.2 = none⌝ ∗ owes (S d (cS L)) O W') := by
  simp only [cc0_k_eq_skeleton]; unfold cc0_k_skel
  simp only [Prog.lift, Prog.bind_op, Prog.bind_ret, Prog.pure_eq_ret]
  rw [(K (F := F)).scopedBufs_S facts d (cS L), ownBufs_eq]
  iintro ⟨#Hlv, -, ⟨Ht, Hl, Ho⟩, ⟨⟨⟨%g, Hb⟩, Hbr⟩, Hbv⟩, Hss, HO⟩
  ihave Hss := (SparseCore.Cfg.scopedSems0_S_elim (Val := Elt F) d (cS L)) $$ Hss
  icases Hss with ⟨Hown, Hsubs⟩
  ihave Hown := (Entails.of_eq (ownSems_eq (F := F) d (cS L))) $$ Hown
  icases Hown with ⟨Hs1, Hs2, Hsr⟩
  -- the lengths
  iapply (fetch d L ln g O W hO) $$ [Hs1 Hb Hl HO]
  · isplitr; · iexact Hlv
    isplitl [Hs1]; · iexact Hs1
    isplitl [Hb]; · iexact Hb
    isplitl [Hl]; · iexact Hl
    iexact HO
  iintro ⟨Hs1, Hb, Hl, HO⟩
  -- the thirty-two copies, started
  ihave Hpre := (gather_before d X ln f0) $$ [Ht Ho]
  · isplitl [Ht] <;> iassumption
  icases Hpre with ⟨Hpre, Hrest⟩
  ihave Hpre := (Entails.of_eq (Transfers.bigSep_pending_zero (before d X ln f0))) $$ Hpre
  imod (Transfers.batch_alloc' (Lvl := ℕ) countersEmb (S d (cS L)) (none : HIx 1) unitsOf (after d X ln) (sm := .dma cc0_scratch1.sem) (E := Set.univ)) $$ Hs2 with HB
  iapply (Scf.wp_for_bind frame (wpE (defs₀ (F := F)) 𝒱₀ (S d (cS L)) none) Set.univ _ _ _ _ _ _
    (fun k _ => started d L X ln f0 k) (fun k _ => issue_trip d L X ln f0 hv k)) $$ [HB Hpre Hb]
  · unfold started
    isplitl [HB]; · iexact HB
    isplitl [Hpre]; · iexact Hpre
    iexact Hb
  iintro %_ HI
  ihave HI := (Entails.of_eq (congrArg (started d L X ln f0) issue_trips)) $$ HI
  unfold started
  icases HI with ⟨HB, -, Hb⟩
  -- and waited for
  iapply (Scf.wp_for_bind frame (wpE (defs₀ (F := F)) 𝒱₀ (S d (cS L)) none) Set.univ _ _ _ _ _ _
    (fun k _ => drained d L X ln O W k) (fun k _ => drain_trip d L X ln O W hO k)) $$ [HB HO]
  · unfold drained
    isplitr; · iexact Hlv
    isplitl [HB]
    · rw [Nat.zero_mul]; iexact HB
    iexists (insert (SemLoc.dma cc0_scoped0.sem, none) W); isplitr
    · ipureintro; intro p hp
      rcases Finset.mem_insert.mp hp with rfl | hp
      · exact .inr rfl
      · exact .inl hp
    iexact HO
  iintro %_ HI
  ihave HI := (Entails.of_eq (congrArg (drained d L X ln O W) drain_trips)) $$ HI
  unfold drained
  icases HI with ⟨-, HB, HO⟩
  rw [Nat.mul_comm 32 unitsOf]
  imod (Transfers.batch_collect' countersEmb (S d (cS L)) (n := 32) units_pos (D := after d X ln)) $$ HB with ⟨HD, Hs2⟩
  ihave Hend := (gather_after d X ln) $$ [HD Hrest]
  · isplitl [HD] <;> iassumption
  icases Hend with ⟨Ht, Ho⟩
  rw [wp_ret]; imodintro
  isplitl [Ht Hl Ho]
  · isplitl [Ht]; · iexact Ht
    isplitl [Hl]; · iexact Hl
    iexact Ho
  isplitl [Hb Hbr Hbv]
  · isplitl [Hb Hbr]
    · isplitl [Hb]
      · iexists ln; iexact Hb
      iexact Hbr
    iexact Hbv
  isplitl [Hs1 Hs2 Hsr Hsubs]
  · iapply (SparseCore.Cfg.scopedSems0_S_intro (Val := Elt F) d (cS L))
    isplitl [Hs1 Hs2 Hsr]
    · rw [ownSems_eq]
      isplitl [Hs1]; · iexact Hs1
      isplitl [Hs2]; · iexact Hs2
      iexact Hsr
    iexact Hsubs
  iexact HO

end Body

end Cert.Proof.Run

end
-- ==== Proof.Launch.lean ====
/-
  The whole program's run: the host lays the sequences out as a table of rows, calls the kernel once, and ends with the
  sequences and lengths as they were and the result at the half-rows the lengths name.
-/
module

public import proofs.«01_k».proof.Proof.Body

@[expose] public section

noncomputable section

namespace Cert.Proof.Run

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The call's operands and results -/

/-- The table of rows on device `d`: the sequences, their steps one after another. -/
def table (d : Dev nD) : Buf (Elt F) (tabLoc d) :=
  shapeCast (s := S16x2048x2048) S32768x2048 (m (seqLoc d)) shapeCasts_S16x2048x2048_S32768x2048

/-- What the program leaves in its result on device `d`. -/
def answer (d : Dev nD) : Buf (Elt F) (outLoc d) := result (table m d) (m (lenLoc d))

/-- What the call is given: the table, the lengths, the result's array as it was; -/
abbrev given (d : Dev nD) : sProp 𝕄 :=
  iprop((tabLoc d ↦{fullShare} table m d) ∗ (lenLoc d ↦{fullShare} m (lenLoc d)) ∗ (outLoc d ↦{fullShare} m (outLoc d)))
/-- what it gives back: the table, the lengths, the result. -/
abbrev handed (d : Dev nD) : sProp 𝕄 :=
  iprop((tabLoc d ↦{fullShare} table m d) ∗ (lenLoc d ↦{fullShare} m (lenLoc d)) ∗ (outLoc d ↦{fullShare} answer m d))

/-- The call as the launch hands its resources out and takes them back. No vector subcore takes part. -/
def P : (K (F := F)).Pay (nD := nD) (Val := Elt F) (Name := ℕ) (U := UU) where
  st := fun q d _ => match q with | 0 => given m d
  dn := fun q d _ => match q with | 0 => handed m d
  go := fun _ _ _ _ => iprop(emp)
  td := fun _ _ _ _ => iprop(emp)
  x := fun _ _ => iprop(emp)

instance P_storable : (P (F := F) m).IsStorable where
  st q d _ := match q with | 0 => (inferInstance : BI.Storable (upEmb : UEmb _ 𝕄) (given m d))
  dn q d _ := match q with | 0 => (inferInstance : BI.Storable (upEmb : UEmb _ 𝕄) (handed m d))
  go _ _ _ _ := (inferInstance : BI.Storable (upEmb : UEmb _ 𝕄) iprop(emp))
  td _ _ _ _ := (inferInstance : BI.Storable (upEmb : UEmb _ 𝕄) iprop(emp))

/-- The launch's resources at the outset. -/
def u₀ : UU := (initOf (K (F := F)).hsCells (K (F := F)).hsToks, 1)

/-- Nothing for each of any number of things is nothing. -/
theorem nothing_each {I : Type} (s : Finset I) : (iprop(emp) : sProp 𝕄) = bigSep s fun _ => iprop(emp) := (bigSep_emp_const s).symm

/-- They are the handshakes' own resources; nothing more is asked for on any device or thread. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [← nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), ← nothing_each]
  iempintro

/-! ## The host's arrays -/

abbrev seq' : DevRef τ sig := Proc.devRef .tc (main_arg0 : Ref sig .tc)
abbrev len' : DevRef τ sig := Proc.devRef .tc (main_arg1 : Ref sig .tc)
abbrev tab' : DevRef τ sig := Proc.devRef .tc (main_v0 : Ref sig .tc)
abbrev out' : DevRef τ sig := Proc.devRef .tc (main_v1 : Ref sig .tc)

/-- The host's one operation before the call. -/
abbrev layOut : HloOp τ sig (Elt F) :=
  StableHlo.reshape main_arg0 main_v0 (rfl : (.f32 : EltTy) = .f32) shapeCasts_S16x2048x2048_S32768x2048

abbrev S4 : Finset (DevRef τ sig) := {seq', len', tab', out'}

theorem held_S4 (d : Dev nD) (W : Valuation τ sig (Elt F)) :
    (held (T d) S4 W : sProp 𝕄)
      = iprop((seqLoc d ↦{fullShare} W seq') ∗ (lenLoc d ↦{fullShare} W len') ∗ (tabLoc d ↦{fullShare} W tab') ∗ (outLoc d ↦{fullShare} W out')) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((seqLoc d ↦{fullShare} W main_arg0) ∗ (lenLoc d ↦{fullShare} W main_arg1) ∗ (tabLoc d ↦{fullShare} W main_v0) ∗ (outLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays at the outset. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The arrays once the table is laid out. -/
theorem held_laidOut (d : Dev nD) :
    (held (T d) S4 ((layOut (F := F)).result (V0 m d)) : sProp 𝕄)
      = iprop((seqLoc d ↦{fullShare} m (seqLoc d)) ∗ (lenLoc d ↦{fullShare} m (lenLoc d)) ∗ (tabLoc d ↦{fullShare} table m d)
        ∗ (outLoc d ↦{fullShare} m (outLoc d))) := by
  rw [held_S4, (layOut (F := F)).result_of_not_mem (V0 m d) (b := seq') (show seq' ∉ ({tab'} : Finset (DevRef τ sig)) by decide),
    (layOut (F := F)).result_of_not_mem (V0 m d) (b := len') (show len' ∉ ({tab'} : Finset (DevRef τ sig)) by decide),
    (layOut (F := F)).result_of_not_mem (V0 m d) (b := out') (show out' ∉ ({tab'} : Finset (DevRef τ sig)) by decide),
    show (layOut (F := F)).result (V0 m d) tab' = table m d from StableHlo.reshape_result _ _ _ _ _ _ _]
  rfl

theorem st0_eq (d : Dev nD) : (bigSep Finset.univ fun c : Fin ((K (F := F)).nCore 0) => (P m).st 0 d c) = given m d :=
  bigSep_univ_of_subsingleton (0 : Fin 1)
theorem dn0_eq (d : Dev nD) : (bigSep Finset.univ fun c : Fin ((K (F := F)).nCore 0) => (P m).dn 0 d c) = handed m d :=
  bigSep_univ_of_subsingleton (0 : Fin 1)

theorem layOut_sub : (layOut (F := F)).bufs ⊆ S4 := show ({seq', tab'} : Finset (DevRef τ sig)) ⊆ S4 by decide

/-! ## The sequencer's part -/

/-- A record of waits that are all the body's own is one the launch accepts. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def coordsS (c : Fin (grid0.bound 0)) : grid0.Coords :=
  fun | 0 => c | ⟨_ + 1, h⟩ => absurd h (Nat.not_lt.2 (Nat.le_add_left _ _))

variable [FloatOps F]

theorem defs₀_scalar (c : Fin τ.nSC) :
    defs₀ (F := F) (.scScalar c) 0 ()
      = SparseCore.onCore hcore0 (fun c => cc0_k (F := F) (coordsS c) tabM (Memref.isWhole_whole _) lenM (Memref.isWhole_whole _)
          outM (Memref.isWhole_whole _) bufM (Memref.isWhole_whole _) cc0_scratch1 cc0_scoped0) ⟨⟩ c := rfl

/-- The kernel is the call's part on the sequencer, the lengths being in range. -/
theorem scalarObl (hv : ∀ d : Dev nD, Valid (m (lenLoc d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d (coordsS ⟨_, hc⟩) (table m d) (m (lenLoc d)) (m (outLoc d)) (hv d) O W hO).trans (wp_mono frame _ _ fun _ => obl_post)

/-! ## The host's part -/

/-- What the host ends with on device `d`: the sequences and lengths as they were, the result. -/
abbrev FIN (d : Dev nD) : sProp 𝕄 :=
  iprop((seqLoc d ↦{fullShare} m (seqLoc d)) ∗ (lenLoc d ↦{fullShare} m (lenLoc d)) ∗ (outLoc d ↦{fullShare} answer m d))

/-- The host's program: the table laid out, the call made, the arrays kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := layOut) (S := S4) layOut_sub (V := V0 m d)) $$ [Hb Hheld]
  · isplitl [Hb] <;> iassumption
  iintro ⟨Hb, Hheld⟩
  rw [wp_ret]; imodintro
  ihave Hh := (Entails.of_eq (held_laidOut (F := F) m d)) $$ Hheld
  icases Hh with ⟨Hq, Hl, Ht, Ho⟩
  iapply ((K (F := F)).wp_run (D (F := F)) 𝒱 (EH := EH) (P := P m) κ d 0) $$ [Hst Hq Hl Ht Ho Hb Hts]
  isplitr; · iexact Hctx
  isplitl [Hst]; · iexact Hst
  isplitl [Hl Ht Ho]
  · rw [st0_eq]
    isplitl [Ht]; · iexact Ht
    isplitl [Hl]; · iexact Hl
    iexact Ho
  iintro ⟨Hst, Hdn⟩
  ihave Hdn := (Entails.of_eq (dn0_eq m d)) $$ Hdn
  icases Hdn with ⟨-, Hl, Ho⟩
  imodintro
  isplitl [Hst]; · iexact Hst
  isplitr [Hb Hts]
  · isplitl [Hq]; · iexact Hq
    isplitl [Hl]; · iexact Hl
    iexact Ho
  isplitl [Hb] <;> iassumption

/-- What the arrays the host ends with say of the final memory. -/
def fq (d : Dev nD) (s' : Phys nD τ sig (Elt F)) : Prop :=
  s'.mem.mem (outLoc d) = answer m d ∧ s'.mem.mem (seqLoc d) = m (seqLoc d) ∧ s'.mem.mem (lenLoc d) = m (lenLoc d)

theorem hfin (d : Dev nD) (s' : Phys nD τ sig (Elt F)) : iprop(FIN m d ∗ SI s') ⊢ (⌜fq m d s'⌝ : sProp 𝕄) := by
  iintro ⟨⟨Hq, Hl, Ho⟩, HSI⟩
  ihave H := (persistent_entails_right (SI_pointsTo_agree (st := s') (ℓ := seqLoc d) (I := Finset.univ) (q := fullShare) (f := m (seqLoc d)))) $$ [HSI Hq]
  · isplitl [HSI] <;> iassumption
  icases H with ⟨%h1, HSI, -⟩
  ihave H := (persistent_entails_right (SI_pointsTo_agree (st := s') (ℓ := lenLoc d) (I := Finset.univ) (q := fullShare) (f := m (lenLoc d)))) $$ [HSI Hl]
  · isplitl [HSI] <;> iassumption
  icases H with ⟨%h2, HSI, -⟩
  ihave H := (SI_pointsTo_agree (st := s') (ℓ := outLoc d) (I := Finset.univ) (q := fullShare) (f := answer m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- The program's end: on every device the result is the answer, and the arguments are as they were; every semaphore is
    at zero. -/
def Ends : PUnit × MemSt nD τ sig (Elt F) → Prop := fun r =>
  (∀ c : Dev nD, r.2.mem (outLoc c) = answer m c ∧ r.2.mem (seqLoc c) = m (seqLoc c) ∧ r.2.mem (lenLoc c) = m (lenLoc c))
    ∧ r.2.sem = fun _ => 0

/-- From any memory whose lengths are in range, over any float values, every run of the program ends so. -/
theorem run_main [∀ e, Nonempty (Elt F e)] (hv : ∀ d : Dev nD, Valid (m (lenLoc d))) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q _ => match q with | 0 => scalarObl m hv)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (Ends m) (fun _ h hz => ⟨h, hz⟩)

end Cert.Proof.Run

end
-- ==== Proof.RefValue.lean ====
/-
  What the reference returns, element by element.

  The reference takes, from the left halves of the sequences, the step at each length less one, and from the right
  halves step 0, and puts the two side by side. Taking a step is done with care for steps out of range: a negative one
  is counted from the end, and one still out of range gives a fixed number. With the lengths from 1 to 2048 neither
  happens, and each half reads the sequences at the step named. So the reference's result is `gathered` of the sequences
  laid out as a table of rows.
-/
module

public import proofs.«01_k».proof.Proof.Spec
public import proofs.«01_k».proof.Proof.Gen.ReferenceIdeal
public import proofs.«01_k».proof.Proof.Gen.ReferenceIdeal.Run
public import Idealize.ShloMosaic.Lib.ReduceAll
public import Idealize.ShloMosaic.Lib.WordCmp
public import Idealize.ShloMosaic.Lib.Pipeline.Value

@[expose] public section

noncomputable section

namespace Cert.Proof.Ref

open Cert.ReferenceIdeal Cert.ReferenceIdeal.Gen
open Idealize.ShloMosaic Idealize.ShloMosaic.ValueIdx Idealize.ShloMosaic.TcCoe
open Cert.Proof.Spec (gathered Valid stepOf lastStep rowOf)

variable {F : FTy → Type} [FloatOps F]

/-! ## Taking a step, as the reference does -/

/-- The steps asked for, a negative one counted from the end, with a trailing axis of one. -/
def wrapped (ix : IVec S16x1x1024 32) : IVec S16x1x1024x1 32 :=
  shapeCast S16x1x1024x1 (select (cmpi .slt ix (broadcastInDim S16x1x1024 ![] bcast_S_S16x1x1024 (constantI S_ 32 0#32)))
    (addi ix (broadcastInDim S16x1x1024 ![] bcast_S_S16x1x1024 (constantI S_ 32 2048#32))) ix) shapeCasts_S16x1x1024_S16x1x1024x1

/-- Where the step is in range. -/
def inside (ix : IVec S16x1x1024 32) : IVec S16x1x1024 1 :=
  Host.reduce IntOp.andi
    (andi (cmpi .sge (wrapped ix) (broadcastInDim S16x1x1024x1 ![] bcast_S_S16x1x1024x1 (constantI S_ 32 0#32)))
      (cmpi .sle (wrapped ix) (broadcastInDim S16x1x1024x1 ![0, 1, 2, 3] bcast_S1x1x1x1_S16x1x1024x1_0_1_2_3
        (broadcastInDim S1x1x1x1 ![3] bcast_S1_S1x1x1x1_3 (constantI S1 32 2047#32)))))
    (constantI S_ 1 1#1) reducesTo_S16x1x1024x1_S16x1x1024_d3 h_S_

/-- The half-sequences `x` at the steps `ix`, and a fixed number where a step is out of range. -/
def taken (x : FVec F S16x2048x1024 .f32) (ix : IVec S16x1x1024 32) : FVec F S16x1x1024 .f32 :=
  select (inside ix) (Host.gather gather_S16x2048x1024_S16x1x1024x1_S16x1x1024_n_1_02_02_1_3_111 x (wrapped ix))
    (broadcastInDim S16x1x1024 ![] bcast_S_S16x1x1024 (constant S_ .f32 0x7FC00000#32))

/-- The steps of the left half: each length less one. -/
def lastIx (len : IVec S16 32) : IVec S16x1x1024 32 :=
  broadcastInDim S16x1x1024 ![0, 1, 2] bcast_S16x1x1_S16x1x1024_0_1_2 (broadcastInDim S16x1x1 ![0] bcast_S16_S16x1x1_0
    (subi len (broadcastInDim S16 ![] bcast_S_S16 (constantI S_ 32 1#32))))
/-- The steps of the right half: zero. -/
def firstIx : IVec S16x1x1024 32 := broadcastInDim S16x1x1024 ![] bcast_S_S16x1x1024 (constantI S_ 32 0#32)

/-- The reference's result is the two halves, taken and put side by side. -/
theorem result_eq (m : (ℓ : Loc nD τ sig) → Buf (Elt F) ℓ) (c : Dev nD) :
    Value.res_out0 m c = shapeCast S16x2048 (concatenate S16x1x2048 2
      [⟨S16x1x1024, taken (extractStridedSlice S16x2048x1024 ![0, 0, 0] (m ((c.tc : Thread nD τ).loc main_arg0) : FVec F S16x2048x2048 .f32) slices_S16x2048x2048_S16x2048x1024_0_0_0)
          (lastIx (m ((c.tc : Thread nD τ).loc main_arg1)))⟩,
        ⟨S16x1x1024, taken (extractStridedSlice S16x2048x1024 ![0, 0, 1024] (m ((c.tc : Thread nD τ).loc main_arg0) : FVec F S16x2048x2048 .f32) slices_S16x2048x2048_S16x2048x1024_0_0_1024)
          firstIx⟩] concatenates_S16x1x1024_S16x1x1024_S16x1x2048_d2) shapeCasts_S16x1x2048_S16x2048 := rfl

/-! ## It read at an element -/

/-- A step from 0 to 2047 is kept as it is, -/
theorem keep_step (v : BitVec 32) (h : v.toNat < 2048) : Scalar.select (IntOp.cmpi .slt v 0#32) (IntOp.addi v 2048#32) v = v := by
  rw [WordCmp.cmpi_slt_of_lt (by omega) (by decide)]
  unfold Scalar.select
  rw [if_neg]
  rw [show decide (v.toNat < (0#32 : BitVec 32).toNat) = false from decide_eq_false (by simp)]
  decide

/-- and is in range. -/
theorem step_inside (v : BitVec 32) (h : v.toNat < 2048) : IntOp.andi (IntOp.cmpi .sge v 0#32) (IntOp.cmpi .sle v 2047#32) = 1#1 := by
  rw [WordCmp.cmpi_sge_of_lt (by omega) (by decide), WordCmp.cmpi_sle_of_lt (by omega) (by decide),
    decide_eq_true (show (0#32 : BitVec 32).toNat ≤ v.toNat by simp), decide_eq_true (show v.toNat ≤ (2047#32 : BitVec 32).toNat from Nat.le_of_lt_succ h)]
  decide

variable (ix : IVec S16x1x1024 32) (hix : ∀ j, (ix j).toNat < 2048)

/-- Every wrapped step is one of the steps asked for; at an index it is the one at the same place. -/
theorem wrapped_apply (e : S16x1x1024x1.Idx) (j : S16x1x1024.Idx) (hk : (S16x1x1024.rowMajor j).val = (S16x1x1024x1.rowMajor e).val) :
    (ix j).toNat < 2048 → wrapped ix e = ix j := fun h =>
  (shapeCast_apply _ shapeCasts_S16x1x1024_S16x1x1024x1 e j hk).trans (keep_step (ix j) h)

include hix in
theorem inside_one (j : S16x1x1024.Idx) : inside ix j = 1#1 := by
  refine Host.reduce_andi_one _ _ _ _ _ rfl fun e => ?_
  have hw : wrapped ix e = ix (Shape.reshapeEquiv shapeCasts_S16x1x1024_S16x1x1024x1 e) :=
    wrapped_apply ix e _ (Shape.rowMajor_reshapeEquiv _ _) (hix _)
  show IntOp.andi (IntOp.cmpi .sge (wrapped ix e) 0#32) (IntOp.cmpi .sle (wrapped ix e) 2047#32) = 1#1
  rw [hw]; exact step_inside _ (hix _)

include hix in
/-- With every step in range, taking reads the half-sequences at the step. -/
theorem taken_apply (x : FVec F S16x2048x1024 .f32) (b : Fin 16) (q : Fin 1024) :
    taken x ix (ix3 b (0 : Fin 1) q) = x (ix3 b ⟨(ix (ix3 b (0 : Fin 1) q)).toNat, hix _⟩ q) := by
  unfold taken
  show Scalar.select (inside ix (ix3 b 0 q)) (Host.gather gather_S16x2048x1024_S16x1x1024x1_S16x1x1024_n_1_02_02_1_3_111 x (wrapped ix) (ix3 b 0 q)) _ = _
  rw [inside_one ix hix, Scalar.select, if_pos (show (1#1 : BitVec 1) = 1 from rfl)]
  unfold Host.gather
  congr 1
  have hw : wrapped ix (ix4 b (0 : Fin 1) q (0 : Fin 1)) = ix (ix3 b 0 q) :=
    wrapped_apply ix _ _ (by rw [Shape.rowMajor_val_three, Shape.rowMajor_val_four]; simp) (hix _)
  funext a
  refine Fin.ext ?_
  show GatherDims.start _ _ (wrapped ix) a + GatherDims.batchCoord _ _ a + GatherDims.offCoord _ _ a = _
  match a with
  | ⟨0, _⟩ => show 0 + b.val + 0 = b.val; omega
  | ⟨1, _⟩ =>
    have hb := hix (ix3 b 0 q)
    have hi : (wrapped ix (ix4 b (0 : Fin 1) q (0 : Fin 1))).toInt.toNat = (ix (ix3 b 0 q)).toNat := by
      rw [hw, BitVec.toInt_eq_toNat_of_lt (by omega)]; rfl
    have hg : ∀ c, GatherDims.siIdx gather_S16x2048x1024_S16x1x1024x1_S16x1x1024_n_1_02_02_1_3_111 (ix3 b (0 : Fin 1) q) c
        = ix4 b (0 : Fin 1) q (0 : Fin 1) := by
      intro c
      funext k
      refine Fin.ext ?_
      match k with
      | ⟨0, _⟩ => rfl
      | ⟨1, _⟩ => rfl
      | ⟨2, _⟩ => rfl
      | ⟨3, _⟩ => exact Nat.lt_one_iff.mp c.isLt
    show min (wrapped ix (GatherDims.siIdx gather_S16x2048x1024_S16x1x1024x1_S16x1x1024_n_1_02_02_1_3_111 (ix3 b (0 : Fin 1) q) ⟨0, Nat.one_pos⟩)).toInt.toNat (2048 - 1) + 0 + 0
      = (ix (ix3 b 0 q)).toNat
    rw [hg, hi]; omega
  | ⟨2, _⟩ => show 0 + q.val + 0 = q.val; omega

/-! ## The reference's result is the table's -/

/-- With the lengths in range, the left half's step for result row `b` is the last step of sequence `b`. -/
theorem lastIx_apply (len : IVec S16 32) (hv : Valid len) (j : S16x1x1024.Idx) : (lastIx len j).toNat = lastStep len (j 0) := by
  have h := hv (j 0)
  have hr : lastIx len j = len (ix1 (j 0)) - 1#32 := by
    unfold lastIx
    refine (broadcastInDim_apply _ bcast_S16x1x1_S16x1x1024_0_1_2 _ j (ix3 (j 0) 0 0) ?_).trans
      (broadcastInDim_apply _ bcast_S16_S16x1x1_0 _ _ (ix1 (j 0)) ?_)
    · intro a
      match a with
      | ⟨0, _⟩ => rfl
      | ⟨1, _⟩ => rfl
      | ⟨2, _⟩ => rfl
    · intro a
      match a with
      | ⟨0, _⟩ => rfl
  rw [hr]
  show (len (ix1 (j 0)) - 1#32).toNat = ((len (ix1 (j 0))).toNat - 1) % 2048
  rw [BitVec.toNat_sub, show (1#32 : BitVec 32).toNat = 1 from rfl]
  omega

/-- The right half's step is 0. -/
theorem firstIx_apply (j : S16x1x1024.Idx) : (firstIx j).toNat = 0 := rfl

/-- The table of rows holds step `s` of sequence `b` at row `2048 b + s`. -/
theorem table_apply (X : FVec F S16x2048x2048 .f32) (h : S16x2048x2048.ShapeCasts KernelIdeal.S32768x2048)
    (r : Fin 32768) (b : Fin 16) (s p : Fin 2048) (hr : r.val = 2048 * b.val + s.val) :
    shapeCast KernelIdeal.S32768x2048 X h (ix2 r p) = X (ix3 b s p) := by
  refine shapeCast_apply X h _ _ ?_
  rw [Shape.rowMajor_val_three, Shape.rowMajor_val_two]
  show (b.val * 2048 + s.val) * 2048 + p.val = r.val * 2048 + p.val
  omega

/-- With the lengths in range, the reference's result is `gathered` of the sequences laid out as a table of rows. -/
theorem res_eq (m : (ℓ : Loc nD τ sig) → Buf (Elt F) ℓ) (c : Dev nD)
    (hv : Valid (m ((c.tc : Thread nD τ).loc main_arg1))) (h : S16x2048x2048.ShapeCasts KernelIdeal.S32768x2048) :
    Value.res_out0 m c = gathered (shapeCast KernelIdeal.S32768x2048 (m ((c.tc : Thread nD τ).loc main_arg0) : FVec F S16x2048x2048 .f32) h)
      (m ((c.tc : Thread nD τ).loc main_arg1)) := by
  rw [result_eq]
  generalize (m ((c.tc : Thread nD τ).loc main_arg0) : FVec F S16x2048x2048 .f32) = X
  generalize (m ((c.tc : Thread nD τ).loc main_arg1) : IVec S16 32) = len at hv ⊢
  funext y
  obtain ⟨b, p, rfl⟩ : ∃ (b : Fin 16) (p : Fin 2048), y = ix2 b p := ⟨y 0, y 1, eq_ix2 y⟩
  have hp := p.isLt
  refine (shapeCast_apply _ shapeCasts_S16x1x2048_S16x2048 (ix2 b p) (ix3 b (0 : Fin 1) p) ?_).trans ?_
  · rw [Shape.rowMajor_val_three, Shape.rowMajor_val_two]
    show (b.val * 1 + 0) * 2048 + p.val = b.val * 2048 + p.val
    omega
  show _ = shapeCast KernelIdeal.S32768x2048 X h (ix2 (rowOf len b (p.val / 1024)) p)
  by_cases hlt : p.val < 1024
  · have hix : ∀ j, (lastIx len j).toNat < 2048 := fun j => by rw [lastIx_apply len hv]; exact Nat.mod_lt _ (by decide)
    have hs := lastIx_apply len hv (ix3 b (0 : Fin 1) (⟨p.val, hlt⟩ : Fin 1024))
    refine (concatenate_pair_apply_left (t := S16x1x2048) (s₁ := S16x1x1024) (s₂ := S16x1x1024) 2 _ _ concatenates_S16x1x1024_S16x1x1024_S16x1x2048_d2 (ix3 b (0 : Fin 1) p) rfl (ix3 b (0 : Fin 1) (⟨p.val, hlt⟩ : Fin 1024)) ?_).trans ?_
    · intro a
      match a with
      | ⟨0, _⟩ => rfl
      | ⟨1, _⟩ => rfl
      | ⟨2, _⟩ => rfl
    rw [taken_apply _ hix]
    rw [table_apply X h _ b ⟨_, hix (ix3 b 0 ⟨p.val, hlt⟩)⟩ p (by
      show 2048 * b.val + stepOf len b (p.val / 1024) = 2048 * b.val + (lastIx len (ix3 b 0 ⟨p.val, hlt⟩)).toNat
      rw [hs, Nat.div_eq_of_lt hlt]; rfl)]
    refine extractStridedSlice_apply _ _ _ _ _ ?_
    intro a
    match a with
    | ⟨0, _⟩ => show b.val = 0 + b.val; omega
    | ⟨1, _⟩ => exact (Nat.zero_add _).symm
    | ⟨2, _⟩ => show p.val = 0 + p.val; omega
  · have hix : ∀ j, (firstIx j).toNat < 2048 := fun j => by rw [firstIx_apply]; decide
    have hq : p.val - 1024 < 1024 := by omega
    refine (concatenate_pair_apply_right (t := S16x1x2048) (s₁ := S16x1x1024) (s₂ := S16x1x1024) 2 _ _ concatenates_S16x1x1024_S16x1x1024_S16x1x2048_d2 (ix3 b (0 : Fin 1) p) rfl rfl (ix3 b (0 : Fin 1) (⟨p.val - 1024, hq⟩ : Fin 1024)) ?_ ?_).trans ?_
    · intro a ha
      match a, ha with
      | ⟨0, _⟩, _ => rfl
      | ⟨1, _⟩, _ => rfl
      | ⟨2, _⟩, ha => exact absurd rfl ha
    · show p.val - 1024 + 1024 = p.val
      omega
    rw [taken_apply _ hix]
    rw [table_apply X h _ b ⟨_, hix (ix3 b 0 ⟨p.val - 1024, hq⟩)⟩ p (by
      show 2048 * b.val + stepOf len b (p.val / 1024) = 2048 * b.val + 0
      rw [show p.val / 1024 = 1 by omega]; rfl)]
    refine extractStridedSlice_apply _ _ _ _ _ ?_
    intro a
    match a with
    | ⟨0, _⟩ => show b.val = 0 + b.val; omega
    | ⟨1, _⟩ => exact (Nat.zero_add _).symm
    | ⟨2, _⟩ => show p.val = 1024 + (p.val - 1024); omega

end Cert.Proof.Ref

end
-- ==== Proof.Pre.lean ====
/-
  What the claims' condition says of the lengths: each is from 1 to 2048.
-/
module

public import proofs.«01_k».proof.Proof.Spec
public import proofs.«01_k».proof.Proof.Gen.Pre_in_range
public import proofs.«01_k».proof.Pre_in_range
public import Idealize.ShloMosaic.Lib.ReduceAll
public import Idealize.ShloMosaic.Lib.WordCmp

@[expose] public section

noncomputable section

namespace Cert.Proof.Pre

open Cert.Pre_in_range Cert.Pre_in_range.Gen
open Idealize.ShloMosaic Idealize.ShloMosaic.ValueIdx

variable {F : FTy → Type} [FloatOps F]

/-- A word from 1 to 2048 as a signed number is from 1 to 2048 as an unsigned one. -/
theorem word_in_range (v : BitVec 32) (h1 : 1 ≤ v.toInt) (h2 : v.toInt ≤ 2048) : 1 ≤ v.toNat ∧ v.toNat ≤ 2048 := by
  rw [BitVec.toInt_eq_toNat_cond] at h1 h2
  have := v.isLt
  split at h1 <;> split at h2 <;> omega

/-- If the condition holds of the arguments, the lengths are in range. -/
theorem valid_of_pre (x : FVec F S16x2048x2048 .f32) (len : IVec S16 32) (h : Cert.Pre_in_range.fn x len = fun _ => 1#1) :
    Spec.Valid len := by
  intro b
  have : Subsingleton S_.Idx := ⟨fun a _ => funext fun i => i.elim0⟩
  have e := Host.reduce_andi_all _ _ _ _ _ (congrFun h (Shape.Idx.first h_S_)) (ix1 b)
  obtain ⟨e1, e2⟩ := IntOp.andi_eq_one.1 e
  exact word_in_range _ (IntOp.cmpi_sge.1 e1) (IntOp.cmpi_sle.1 e2)

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Pre_in_range
public import proofs.«01_k».proof.Proof.Launch
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem

/-! ## The runs end, change no argument, and leave every counter at zero -/

/-- The kernel over exact numbers runs to its end, with both arguments unchanged and every counter at zero. -/
theorem frame_kernel_ideal : Cert.quiescent_KernelIdeal := fun m ρ hpre =>
  (θ_run Cert.KernelIdeal.defs _ _).mono (fun _ h => ⟨fun c => (h.1 c).2, h.2⟩)
    (Run.run_main (F := Ideal) m ρ (fun d => Pre.valid_of_pre _ _ (hpre d)))

/-- The kernel over machine numbers does the same: it is the same run. -/
theorem frame_kernel : Cert.quiescent_Kernel := fun m ρ hpre =>
  (θ_run Cert.KernelIdeal.defs _ _).mono (fun _ h => ⟨fun c => (h.1 c).2, h.2⟩)
    (Run.run_main (F := Bits) m ρ (fun d => Pre.valid_of_pre _ _ (hpre d)))

/-- The reference over exact numbers runs to its end from any memory, with both arguments unchanged and
    every counter at zero: it has no counter to raise. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The same, said of the lengths in range only. -/
theorem frame_reference_ideal_in_range : Cert.quiescent_ReferenceIdeal_pre_in_range := fun m ρ _ =>
  frame_reference_ideal m ρ trivial

/-- The reference over machine numbers runs to its end, with both arguments unchanged and every counter at
    zero. -/
theorem frame_reference : Cert.quiescent_Reference := fun m ρ _ =>
  (θ_run Cert.Reference.defs _ _).mono
    (fun r h => ⟨fun c => (h c).2, sem_eq_zero_of_no_sems (by decide) r.2⟩)
    (Cert.Reference.Value.run m ρ)

/-! ## The kernel's result is the reference's -/

/-- Over exact numbers the kernel and the reference, given equal arguments with every length in range, end
    with the same result. -/
theorem same_ideal : Cert.algebraic_KernelIdeal_ReferenceIdeal := fun m ρ m' ρ' hpre hargs => by
  have hv : ∀ d, Spec.Valid (m (Run.lenLoc d)) := fun d => Pre.valid_of_pre _ _ (hpre d)
  refine ⟨fun c => Run.answer m c,
    (θ_run Cert.KernelIdeal.defs _ _).mono (fun _ h => h.1) (Run.run_main (F := Ideal) m ρ hv),
    (θ_run Cert.ReferenceIdeal.defs _ _).mono (fun r h c => ⟨?_, (h c).2⟩)
      (Cert.ReferenceIdeal.Value.run m' ρ')⟩
  obtain ⟨h0, h1⟩ := hargs c
  refine (h c).1.trans ((Ref.res_eq m' c (by rw [h1]; exact hv c)
    Cert.KernelIdeal.Gen.shapeCasts_S16x2048x2048_S32768x2048).trans ?_)
  rw [h0, h1]
  rfl

/-- Over machine numbers the two results are the same bits. -/
theorem same_bits : Cert.bitexact_Kernel_Reference := fun m ρ m' ρ' hpre hargs => by
  have hv : ∀ d, Spec.Valid (m (Run.lenLoc d)) := fun d => Pre.valid_of_pre _ _ (hpre d)
  refine ⟨fun c => Run.answer m c,
    (θ_run Cert.KernelIdeal.defs _ _).mono (fun _ h => h.1) (Run.run_main (F := Bits) m ρ hv),
    (θ_run Cert.Reference.defs _ _).mono (fun r h c => ⟨?_, (h c).2⟩)
      (Cert.Reference.Value.run m' ρ')⟩
  obtain ⟨h0, h1⟩ := hargs c
  refine (h c).1.trans ((Ref.res_eq (F := Bits) m' c (by rw [h1]; exact hv c)
    Cert.KernelIdeal.Gen.shapeCasts_S16x2048x2048_S32768x2048).trans ?_)
  rw [h0, h1]
  rfl

/-- Everything claimed of the kernel and its reference. -/
theorem claim : Cert.Claim :=
  ⟨Cert.Kernel.Gen.facts, Cert.KernelIdeal.Gen.facts, Cert.ReferenceIdeal.Gen.facts,
    Cert.Reference.Gen.facts, Cert.Pre_in_range.Gen.facts,
    frame_kernel, frame_kernel_ideal, frame_reference_ideal, frame_reference_ideal_in_range,
    frame_reference, trivial, same_ideal, same_bits⟩

end Cert.Proof

end
